-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S4096x1024 : Shape := ⟨2, ![4096, 1024]⟩
abbrev S4096 : Shape := ⟨1, ![4096]⟩
abbrev S1x4096 : Shape := ⟨2, ![1, 4096]⟩
abbrev S16384x4096 : Shape := ⟨2, ![16384, 4096]⟩
abbrev S1024x1024 : Shape := ⟨2, ![1024, 1024]⟩
abbrev S1024x4096 : Shape := ⟨2, ![1024, 4096]⟩
abbrev S2x256x1024 : Shape := ⟨3, ![2, 256, 1024]⟩
abbrev S2 : Shape := ⟨1, ![2]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S256 : Shape := ⟨1, ![256]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096x1024, .f32⟩
  | .hbm, ⟨3, _⟩ => ⟨S4096, .f32⟩
  | .hbm, ⟨4, _⟩ => ⟨S1x4096, .f32⟩
  | .hbm, ⟨5, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S1x4096, .f32⟩
  | .local _ .vmem, ⟨3, _⟩ => ⟨S1024x4096, .f32⟩
  | .local _ .vmem, ⟨4, _⟩ => ⟨S1024x4096, .f32⟩
  | .local _ .vmem, ⟨5, _⟩ => ⟨S4096x1024, .bf16⟩
  | .local _ .vmem, ⟨6, _⟩ => ⟨S2x256x1024, .f32⟩
  | .local _ .vmem, ⟨7, _⟩ => ⟨S2x256x1024, .f32⟩
  | .local _ .vmem, ⟨8, _⟩ => ⟨S1x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096x1024, .f32⟩
  | .hbm, ⟨3, _⟩ => ⟨S4096, .f32⟩
  | .hbm, ⟨4, _⟩ => ⟨S16384x4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S16384x4096, .f32⟩
  | .hbm, ⟨9, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Fused.Setup.lean ====
module

public import proofs.«01_k».proof.Proof.Gen.KernelIdeal.Frame
public import proofs.«01_k».proof.Proof.Gen.KernelIdeal.Skeleton
public import Idealize.ShloMosaic.Lib.Tactic

/-! # The kernel's launch, set up: its branch, its buffers, its own semaphores -/

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's branch conditions -/

/-- The body's one branch is on this: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The buffers the body is called with -/

/-- The three windows' staging buffers at point `t`, each a whole buffer. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4096 .f32 := win0_2.stage (cfg0.slots t 2)
abbrev hs0_2 (t : Fin cfg0.N) : (ms0_2 t).IsWhole := hstage0_2 ((cfg0.slots t 2).cast nbuf0_2)
/-- The kernel's four scratch buffers. -/
abbrev scM0_0 : Memref sig .tc .vmem S4096x1024 .bf16 := Memref.whole cc0_scratch0
abbrev scM0_1 : Memref sig .tc .vmem S2x256x1024 .f32 := Memref.whole cc0_scratch1
abbrev scM0_2 : Memref sig .tc .vmem S2x256x1024 .f32 := Memref.whole cc0_scratch2
abbrev scM0_3 : Memref sig .tc .vmem S1x4096 .f32 := Memref.whole cc0_scratch3
/-- The two operands the body copies from itself: the weight and the label embedding. -/
abbrev hbM0_0 : Memref sig .tc .hbm S4096x1024 .f32 := Memref.whole main_arg2
abbrev hbM0_1 : Memref sig .tc .hbm S4096x1024 .f32 := Memref.whole main_arg1
/-- The contents of a buffer on core `c`, -/
abbrev HbBuf0 (c : Dev nD) {sp : Space} {S : Shape} {e : EltTy} (M : Memref sig .tc sp S e) : Type := Buf (Elt F) (M.view.loc (c : Thread nD τ))
/-- and the buffer held whole at contents `f`. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The four semaphores of the body's own copies. -/
abbrev osem0 : Fin 4 → SemLoc sig := fun j => (![SemLoc.dma 5, SemLoc.dma 6, SemLoc.dma 7, SemLoc.dma 8] : Fin 4 → SemLoc sig) j
/-- None of them is a window's. -/
theorem ownSemFacts0 : Pipeline.OwnSemFacts spec0 osem0 := by decide
/-- All four at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) := by
  rw [Pipeline.ownSems0_eq_of_list c osem0 [0, 1, 2, 3] (by decide) (by decide)]; rfl
/-- The two operands as a set of references, -/
def H0 : Finset (Ref sig .tc) := {main_arg2, main_arg1}
/-- none of them a window's array. -/
theorem H0_sub : H0 ⊆ Pipeline.restRefs sig spec0 := by decide
/-- Both held at what the region finds in them, one by one. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg1)) := by
  rw [BI.bigSep_eq_bigSepL_of_eq [main_arg2, main_arg1] (by decide) (by decide)]; rfl

/-- The launch's invariant, conjunct by conjunct: the scratches at anything, the generator register, the semaphores at
    zero, the two operands in place. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) ∗ iprop(hbPt0 c hbM0_0 (V m c main_arg2) ∗ hbPt0 c hbM0_1 (V m c main_arg1))) := by
  rw [Pipeline.ΦD_eq, scopedRest0_eq, ownSems00_eq, hbmPts0_eq]; simp only [scM0_0, scM0_1, scM0_2, scM0_3, owns_whole]; try rfl

end Cert.KernelIdeal.Fused

end
-- ==== Proof.Fused.Values.lean ====
module

public import proofs.«01_k».proof.Proof.Fused.Setup
public import Idealize.ShloMosaic.Lib.Pipeline.Value
public import Idealize.ShloMosaic.Lib.Pointwise.Index

/-! # What the kernel leaves in its buffers, as plain functions of its operands

The first grid point rounds the weight `W` to `bf16` into one scratch and computes the bias row
`b[j] + ∑ₖ W[j, k] · L[j, k]` into another, 256 rows at a time, through two-slot staging buffers.
This file names those two contents (`rounded`, `biasRow`) and proves, once for every chunk, that a
slot read after the copies gives the chunk that was copied last, and that the value stored for the
chunk is the named contents on the chunk's rows. -/

@[expose] public section

set_option maxRecDepth 16384

noncomputable section

namespace Cert.KernelIdeal.Fused

open Cert.KernelIdeal.Gen
open Idealize.ShloMosaic Idealize.ShloMosaic.TcCoe

variable {F : FTy → Type} [FloatOps F]

/-! ## The contents by name -/

/-- The 256 rows of a `[4096, 1024]` array from row `o` on (the row number taken modulo 4096, so that the
    definition needs no bound on `o`). -/
def rowsFrom (o : ℕ) (w : Vec F S4096x1024 .f32) : Vec F S256x1024 .f32 :=
  fun i => w (ix2 (n0 := 4096) (n1 := 1024) ⟨(o + (i 0).val) % 4096, Nat.mod_lt _ (by decide)⟩ ⟨(i 1).val, (i 1).isLt⟩)

/-- The 256 entries of a row of 4096 from entry `o` on. -/
def entriesFrom (o : ℕ) (b : Vec F S1x4096 .f32) : Vec F S1x256 .f32 :=
  fun i => b (ix2 (n0 := 1) (n1 := 4096) 0 ⟨(o + (i 1).val) % 4096, Nat.mod_lt _ (by decide)⟩)

/-- The weight rounded to `bf16`, element by element. -/
def rounded (w : Vec F S4096x1024 .f32) : Vec F S4096x1024 .bf16 := truncf .bf16 w bitsLt_bf16_f32

/-- One chunk of the bias: the row sums of the product of two `[256, 1024]` chunks, plus the chunk's own bias. -/
def chunkBias (w l : Vec F S256x1024 .f32) (b : Vec F S1x256 .f32) : Vec F S1x256 .f32 :=
  shapeCast S1x256 (addf (multiReduction (F := F) (φ := .f32) .add [1] S256 (mulf (F := F) (φ := .f32) w l) 0x00000000#32 reduces_S256x1024_S256 (.inl rfl) rfl) (shapeCast S256 b shapeCasts_S1x256_S256)) shapeCasts_S256_S1x256

/-- The whole bias row: entry `j` is entry `j % 256` of the chunk that starts at row `j / 256 · 256`. -/
def biasRow (w l : Vec F S4096x1024 .f32) (b : Vec F S1x4096 .f32) : Vec F S1x4096 .f32 :=
  fun y => chunkBias (rowsFrom ((y 1).val / 256 * 256) w) (rowsFrom ((y 1).val / 256 * 256) l) (entriesFrom ((y 1).val / 256 * 256) b)
    (ix2 (n0 := 1) (n1 := 256) 0 ⟨(y 1).val % 256, Nat.mod_lt _ (by decide)⟩)

/-- One row block of the result: the rounded block of `x` times the rounded weight's transpose, plus the bias row. -/
def rowBlock (x : Vec F S1024x1024 .f32) (w : Vec F S4096x1024 .bf16) (b : Vec F S1x4096 .f32) : Vec F S1024x4096 .f32 :=
  k0_pay2 x w b

/-! ## Reading a slot of a two-slot staging buffer -/

section Slots

variable (M : Memref sig .tc .vmem S2x256x1024 .f32)

/-- One slot of a two-slot staging buffer, at offsets `off`, as the copies name it: its unit axis dropped. -/
abbrev slotView (off : Fin 3 → ℕ) (inb : ∀ a, off a + S1x256x1024.size a ≤ S2x256x1024.size a)
    (hr : ∀ a, (Rect.unit (s := S2x256x1024) off S1x256x1024.size inb).stride a = 1) : View sig .tc .vmem S256x1024 .f32 :=
  ((M.slice (Rect.unit (s := S2x256x1024) off S1x256x1024.size inb) hr).squeeze S256x1024 squeezes_S1x256x1024_S256x1024).view

/-- A slot just written reads what was written. -/
theorem slot_latest (off : Fin 3 → ℕ) (inb : ∀ a, off a + S1x256x1024.size a ≤ S2x256x1024.size a)
    (hr : ∀ a, (Rect.unit (s := S2x256x1024) off S1x256x1024.size inb).stride a = 1) (f : M.view.ty.Contents (Elt F)) (p : Vec F S256x1024 .f32) :
    shapeCast S256x1024 (M.view.readAt (Elt F) (Rect.unit (s := S2x256x1024) off S1x256x1024.size inb).toLoadRect
      ((slotView M off inb hr).write (Elt F) f p Finset.univ)) shapeCasts_S1x256x1024_S256x1024 = p :=
  View.read_write_univ (v := slotView M off inb hr) f p

/-- A slot written, then the OTHER slot written: the first still reads what it was given. -/
theorem slot_before (off off' : Fin 3 → ℕ) (inb : ∀ a, off a + S1x256x1024.size a ≤ S2x256x1024.size a)
    (inb' : ∀ a, off' a + S1x256x1024.size a ≤ S2x256x1024.size a)
    (hr : ∀ a, (Rect.unit (s := S2x256x1024) off S1x256x1024.size inb).stride a = 1)
    (hr' : ∀ a, (Rect.unit (s := S2x256x1024) off' S1x256x1024.size inb').stride a = 1)
    (h : off 0 ≠ off' 0) (f : M.view.ty.Contents (Elt F)) (p q : Vec F S256x1024 .f32) :
    shapeCast S256x1024 (M.view.readAt (Elt F) (Rect.unit (s := S2x256x1024) off S1x256x1024.size inb).toLoadRect
      ((slotView M off' inb' hr').write (Elt F) ((slotView M off inb hr).write (Elt F) f p Finset.univ) q Finset.univ))
      shapeCasts_S1x256x1024_S256x1024 = p := by
  refine Eq.trans ?_ (View.read_write_univ (v := slotView M off inb hr) f p)
  show (slotView M off inb hr).read (Elt F) _ = _
  refine View.read_congr fun i hi => View.write_of_not_mem _ _ _ fun hi' => ?_
  rw [View.setOn_univ] at hi'
  simp only [Memref.view_squeeze, View.set_reshape, Memref.view_slice, View.set_slice] at hi hi'
  obtain ⟨x, hx, rfl⟩ := Finset.mem_map.mp hi
  obtain ⟨y, hy, e⟩ := Finset.mem_map.mp hi'
  obtain rfl := M.view.emb.injective e
  have a : off 0 ≤ (y 0).val ∧ (y 0).val < off 0 + 1 := (Rect.mem_set_unit.mp hx) 0
  have b : off' 0 ≤ (y 0).val ∧ (y 0).val < off' 0 + 1 := (Rect.mem_set_unit.mp hy) 0
  omega

end Slots

/-! ## The chunks as pieces of the named contents -/

/-- The copy's source: 256 rows of a whole `[4096, 1024]` operand are `rowsFrom`. -/
theorem read_rows {sp : Space} (M : Memref sig .tc sp S4096x1024 .f32) (o : ℕ)
    (inb : ∀ a, (![o, 0] : Fin 2 → ℕ) a + S256x1024.size a ≤ S4096x1024.size a)
    (hr : ∀ a, (Rect.unit (s := S4096x1024) ![o, 0] S256x1024.size inb).stride a = 1) (f : M.view.ty.Contents (Elt F)) :
    (M.slice (Rect.unit (s := S4096x1024) ![o, 0] S256x1024.size inb) hr).view.read (Elt F) f = rowsFrom o (M.view.read (Elt F) f) := by
  funext i
  show M.view.read (Elt F) f _ = M.view.read (Elt F) f _
  refine congrArg _ (Rect.emb_eq_of_coords _ _ _ fun a => ?_)
  have h0 := inb 0
  have i0 : (i 0).val < 256 := (i 0).isLt
  match a with
  | ⟨0, _⟩ => show (o + (i 0).val) % 4096 = o + 1 * (i 0).val
              have : o + 256 ≤ 4096 := h0
              omega
  | ⟨1, _⟩ => show (i 1).val = 0 + 1 * (i 1).val
              omega

/-- The value stored for the rows of the chunk at `o` is `rounded` there. -/
theorem rounded_piece (w : Vec F S4096x1024 .f32) (o : ℕ)
    (inb : ∀ a, (![o, 0] : Fin 2 → ℕ) a + S256x1024.size a ≤ S4096x1024.size a) (v : Vec F S1x256x1024 .f32)
    (hv : shapeCast S256x1024 v shapeCasts_S1x256x1024_S256x1024 = rowsFrom o w) (x : S256x1024.Idx) :
    shapeCast S256x1024 (truncf (F := F) (φ := .f32) .bf16 (shapeCast S256x1024 v shapeCasts_S1x256x1024_S256x1024) bitsLt_bf16_f32) shapeCasts_S256x1024_S256x1024 x
      = rounded w ((Rect.unit (s := S4096x1024) ![o, 0] S256x1024.size inb).emb x) := by
  rw [hv, shapeCast_self]
  show FloatOps.truncf _ _ (w _) = FloatOps.truncf _ _ (w _)
  refine congrArg _ (congrArg w (Rect.emb_eq_of_coords _ _ _ fun a => ?_).symm)
  have h0 : o + 256 ≤ 4096 := inb 0
  have i0 : (x 0).val < 256 := (x 0).isLt
  match a with
  | ⟨0, _⟩ => show (o + (x 0).val) % 4096 = o + 1 * (x 0).val
              omega
  | ⟨1, _⟩ => show (x 1).val = 0 + 1 * (x 1).val
              omega

/-- The 256 entries of the bias operand a chunk loads are `entriesFrom`. -/
theorem read_entries (M : Memref sig .tc .vmem S1x4096 .f32) (o : ℕ)
    (inb : ∀ a, (![0, o] : Fin 2 → ℕ) a + S1x256.size a ≤ S1x4096.size a) (f : M.view.ty.Contents (Elt F)) :
    M.view.readAt (Elt F) (Rect.unit (s := S1x4096) ![0, o] S1x256.size inb).toLoadRect f = entriesFrom o (M.view.read (Elt F) f) := by
  funext i
  show M.view.read (Elt F) f _ = M.view.read (Elt F) f _
  refine congrArg _ (Rect.emb_eq_of_coords _ _ _ fun a => ?_)
  have h1 : o + 256 ≤ 4096 := inb 1
  have i0 : (i 0).val < 1 := (i 0).isLt
  have i1 : (i 1).val < 256 := (i 1).isLt
  match a with
  | ⟨0, _⟩ => show 0 = 0 + 1 * (i 0).val
              omega
  | ⟨1, _⟩ => show (o + (i 1).val) % 4096 = o + 1 * (i 1).val
              omega

/-- The value stored for the entries of the chunk at `o`, a multiple of 256, is `biasRow` there. -/
theorem bias_piece (w l : Vec F S4096x1024 .f32) (b : Vec F S1x4096 .f32) (o : ℕ) (ho : o % 256 = 0)
    (inb : ∀ a, (![0, o] : Fin 2 → ℕ) a + S1x256.size a ≤ S1x4096.size a) (wc lc : Vec F S256x1024 .f32) (bc : Vec F S1x256 .f32)
    (hw : wc = rowsFrom o w) (hl : lc = rowsFrom o l) (hb : bc = entriesFrom o b) (x : S1x256.Idx) :
    chunkBias wc lc bc x = biasRow w l b ((Rect.unit (s := S1x4096) ![0, o] S1x256.size inb).emb x) := by
  subst hw hl hb
  have x0 : (x 0).val < 1 := (x 0).isLt
  have x1 : (x 1).val < 256 := (x 1).isLt
  have e1 : (((Rect.unit (s := S1x4096) ![0, o] S1x256.size inb).emb x) 1).val = o + 1 * (x 1).val := rfl
  have d : (((Rect.unit (s := S1x4096) ![0, o] S1x256.size inb).emb x) 1).val / 256 * 256 = o := by omega
  have r : (((Rect.unit (s := S1x4096) ![0, o] S1x256.size inb).emb x) 1).val % 256 = (x 1).val := by omega
  unfold biasRow
  rw [d]
  refine congrArg _ (funext fun a => Fin.ext ?_)
  match a with
  | ⟨0, _⟩ => show (x 0).val = 0
              omega
  | ⟨1, _⟩ => exact r.symm

end Cert.KernelIdeal.Fused

end
-- ==== Proof.Fused.RunFirst.lean ====
module

public import proofs.«01_k».proof.Proof.Fused.Values
public import Idealize.ShloMosaic.Lib.VecWindow

/-! # The first grid point: the two scratches are filled, then the row block is stored -/

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- sixteen pairs of copies, each waited for and read back: the run is long
set_option maxHeartbeats 2496000 in set_option sl_exec.dmaWindow true in set_option sl_exec.dmaWindowSet true in
/-- The body where its branch is taken: from any scratch it leaves the rounded weight in `arg6`, the bias row in `arg9`
    and the row block of `x0` in the output block, whatever the two staging buffers held. -/
theorem run_first (c : Dev nD) (i : grid0.Coords) (arg1 : Memref sig .tc .vmem S1024x1024 .f32) (harg1 : arg1.IsWhole) (arg4 : Memref sig .tc .vmem S1x4096 .f32) (harg4 : arg4.IsWhole) (arg5 : Memref sig .tc .vmem S1024x4096 .f32) (harg5 : arg5.IsWhole) (arg6 : Memref sig .tc .vmem S4096x1024 .bf16) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S1x4096 .f32) (harg9 : arg9.IsWhole)
    (hc0 : cond0_0 i) (x0 : Vec F S1024x1024 .f32) (x1 : Vec F S1x4096 .f32) (fh0 : HbBuf0 (F := F) c hbM0_0) (fh1 : HbBuf0 (F := F) c hbM0_1)
    (W : Waits sig Unit) (K : PUnit → sProp 𝕄) :
    iprop(owns (c : Thread nD τ) arg1 fullShare x0
          ∗ owns (c : Thread nD τ) arg4 fullShare x1
          ∗ (∃ d, owns (c : Thread nD τ) arg5 fullShare d)
          ∗ (∃ d, owns (c : Thread nD τ) arg6 fullShare d)
          ∗ (∃ d, owns (c : Thread nD τ) arg7 fullShare d)
          ∗ (∃ d, owns (c : Thread nD τ) arg8 fullShare d)
          ∗ (∃ d, owns (c : Thread nD τ) arg9 fullShare d)
          ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ hbPt0 c hbM0_0 fh0 ∗ hbPt0 c hbM0_1 fh1 ∗ owes (c : Thread nD τ) 0 W
          ∗ (iprop(owns (c : Thread nD τ) arg1 fullShare x0
          ∗ owns (c : Thread nD τ) arg4 fullShare x1
          ∗ owns (c : Thread nD τ) arg5 fullShare (rowBlock x0 (rounded (hbM0_0.view.read (Elt F) fh0)) (biasRow (hbM0_0.view.read (Elt F) fh0) (hbM0_1.view.read (Elt F) fh1) x1))
          ∗ owns (c : Thread nD τ) arg6 fullShare (rounded (hbM0_0.view.read (Elt F) fh0))
          ∗ (∃ d, owns (c : Thread nD τ) arg7 fullShare d)
          ∗ (∃ d, owns (c : Thread nD τ) arg8 fullShare d)
          ∗ owns (c : Thread nD τ) arg9 fullShare (biasRow (hbM0_0.view.read (Elt F) fh0) (hbM0_1.view.read (Elt F) fh1) x1)
          ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ hbPt0 c hbM0_0 fh0 ∗ hbPt0 c hbM0_1 fh1 ∗ (∃ W', owes (c : Thread nD τ) 0 W')) -∗ K ⟨⟩))
      ⊢ wp frame (wpE (defs₀ (F := F)) Variants.none c none) Set.univ
          (cc0__fused_kernel i arg1 harg1 (Memref.whole main_arg2) (Memref.isWhole_whole _) (Memref.whole main_arg1) (Memref.isWhole_whole _) arg4 harg4 arg5 harg5 arg6 harg6 arg7 harg7 arg8 harg8 arg9 harg9 cc0_scratch4 cc0_scratch5) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, ⟨%ds3, %fs3, -, HS3⟩, Hq0, Hq1, Hq2, Hq3, Hh0, Hh1, HW, Hk⟩
  obtain rfl := harg1.eq_unread hf0; obtain rfl := harg4.eq_unread hf1
  sl_exec (disch := first | sl_exact hc0)
  sl_step
  -- the chunk of the weight each load of `arg7` finds
  have w0 : shapeCast S256x1024 (run_first.sl.v36 c arg7 fh0 fs1) shapeCasts_S1x256x1024_S256x1024 = rowsFrom 0 (hbM0_0.view.read (Elt F) fh0) :=
    (slot_before arg7 _ _ _ _ _ _ (by decide) _ _ _).trans (read_rows hbM0_0 _ _ _ fh0)
  have w1 : shapeCast S256x1024 (run_first.sl.v72 c arg7 fh0 fs1) shapeCasts_S1x256x1024_S256x1024 = rowsFrom 256 (hbM0_0.view.read (Elt F) fh0) :=
    (slot_before arg7 _ _ _ _ _ _ (by decide) _ _ _).trans (read_rows hbM0_0 _ _ _ fh0)
  have w2 : shapeCast S256x1024 (run_first.sl.v108 c arg7 fh0 fs1) shapeCasts_S1x256x1024_S256x1024 = rowsFrom 512 (hbM0_0.view.read (Elt F) fh0) :=
    (slot_before arg7 _ _ _ _ _ _ (by decide) _ _ _).trans (read_rows hbM0_0 _ _ _ fh0)
  have w3 : shapeCast S256x1024 (run_first.sl.v144 c arg7 fh0 fs1) shapeCasts_S1x256x1024_S256x1024 = rowsFrom 768 (hbM0_0.view.read (Elt F) fh0) :=
    (slot_before arg7 _ _ _ _ _ _ (by decide) _ _ _).trans (read_rows hbM0_0 _ _ _ fh0)
  have w4 : shapeCast S256x1024 (run_first.sl.v180 c arg7 fh0 fs1) shapeCasts_S1x256x1024_S256x1024 = rowsFrom 1024 (hbM0_0.view.read (Elt F) fh0) :=
    (slot_before arg7 _ _ _ _ _ _ (by decide) _ _ _).trans (read_rows hbM0_0 _ _ _ fh0)
  have w5 : shapeCast S256x1024 (run_first.sl.v216 c arg7 fh0 fs1) shapeCasts_S1x256x1024_S256x1024 = rowsFrom 1280 (hbM0_0.view.read (Elt F) fh0) :=
    (slot_before arg7 _ _ _ _ _ _ (by decide) _ _ _).trans (read_rows hbM0_0 _ _ _ fh0)
  have w6 : shapeCast S256x1024 (run_first.sl.v252 c arg7 fh0 fs1) shapeCasts_S1x256x1024_S256x1024 = rowsFrom 1536 (hbM0_0.view.read (Elt F) fh0) :=
    (slot_before arg7 _ _ _ _ _ _ (by decide) _ _ _).trans (read_rows hbM0_0 _ _ _ fh0)
  have w7 : shapeCast S256x1024 (run_first.sl.v288 c arg7 fh0 fs1) shapeCasts_S1x256x1024_S256x1024 = rowsFrom 1792 (hbM0_0.view.read (Elt F) fh0) :=
    (slot_before arg7 _ _ _ _ _ _ (by decide) _ _ _).trans (read_rows hbM0_0 _ _ _ fh0)
  have w8 : shapeCast S256x1024 (run_first.sl.v324 c arg7 fh0 fs1) shapeCasts_S1x256x1024_S256x1024 = rowsFrom 2048 (hbM0_0.view.read (Elt F) fh0) :=
    (slot_before arg7 _ _ _ _ _ _ (by decide) _ _ _).trans (read_rows hbM0_0 _ _ _ fh0)
  have w9 : shapeCast S256x1024 (run_first.sl.v360 c arg7 fh0 fs1) shapeCasts_S1x256x1024_S256x1024 = rowsFrom 2304 (hbM0_0.view.read (Elt F) fh0) :=
    (slot_before arg7 _ _ _ _ _ _ (by decide) _ _ _).trans (read_rows hbM0_0 _ _ _ fh0)
  have w10 : shapeCast S256x1024 (run_first.sl.v396 c arg7 fh0 fs1) shapeCasts_S1x256x1024_S256x1024 = rowsFrom 2560 (hbM0_0.view.read (Elt F) fh0) :=
    (slot_before arg7 _ _ _ _ _ _ (by decide) _ _ _).trans (read_rows hbM0_0 _ _ _ fh0)
  have w11 : shapeCast S256x1024 (run_first.sl.v432 c arg7 fh0 fs1) shapeCasts_S1x256x1024_S256x1024 = rowsFrom 2816 (hbM0_0.view.read (Elt F) fh0) :=
    (slot_before arg7 _ _ _ _ _ _ (by decide) _ _ _).trans (read_rows hbM0_0 _ _ _ fh0)
  have w12 : shapeCast S256x1024 (run_first.sl.v468 c arg7 fh0 fs1) shapeCasts_S1x256x1024_S256x1024 = rowsFrom 3072 (hbM0_0.view.read (Elt F) fh0) :=
    (slot_before arg7 _ _ _ _ _ _ (by decide) _ _ _).trans (read_rows hbM0_0 _ _ _ fh0)
  have w13 : shapeCast S256x1024 (run_first.sl.v504 c arg7 fh0 fs1) shapeCasts_S1x256x1024_S256x1024 = rowsFrom 3328 (hbM0_0.view.read (Elt F) fh0) :=
    (slot_before arg7 _ _ _ _ _ _ (by decide) _ _ _).trans (read_rows hbM0_0 _ _ _ fh0)
  have w14 : shapeCast S256x1024 (run_first.sl.v540 c arg7 fh0 fs1) shapeCasts_S1x256x1024_S256x1024 = rowsFrom 3584 (hbM0_0.view.read (Elt F) fh0) :=
    (slot_before arg7 _ _ _ _ _ _ (by decide) _ _ _).trans (read_rows hbM0_0 _ _ _ fh0)
  have w15 : shapeCast S256x1024 (run_first.sl.v566 c arg7 fh0 fs1) shapeCasts_S1x256x1024_S256x1024 = rowsFrom 3840 (hbM0_0.view.read (Elt F) fh0) :=
    (slot_latest arg7 _ _ _ _ _).trans (read_rows hbM0_0 _ _ _ fh0)
  -- the chunk of the label embedding each load of `arg8` finds
  have l0 : shapeCast S256x1024 (run_first.sl.v47 c arg8 fh1 fs2) shapeCasts_S1x256x1024_S256x1024 = rowsFrom 0 (hbM0_1.view.read (Elt F) fh1) :=
    (slot_before arg8 _ _ _ _ _ _ (by decide) _ _ _).trans (read_rows hbM0_1 _ _ _ fh1)
  have l1 : shapeCast S256x1024 (run_first.sl.v83 c arg8 fh1 fs2) shapeCasts_S1x256x1024_S256x1024 = rowsFrom 256 (hbM0_1.view.read (Elt F) fh1) :=
    (slot_before arg8 _ _ _ _ _ _ (by decide) _ _ _).trans (read_rows hbM0_1 _ _ _ fh1)
  have l2 : shapeCast S256x1024 (run_first.sl.v119 c arg8 fh1 fs2) shapeCasts_S1x256x1024_S256x1024 = rowsFrom 512 (hbM0_1.view.read (Elt F) fh1) :=
    (slot_before arg8 _ _ _ _ _ _ (by decide) _ _ _).trans (read_rows hbM0_1 _ _ _ fh1)
  have l3 : shapeCast S256x1024 (run_first.sl.v155 c arg8 fh1 fs2) shapeCasts_S1x256x1024_S256x1024 = rowsFrom 768 (hbM0_1.view.read (Elt F) fh1) :=
    (slot_before arg8 _ _ _ _ _ _ (by decide) _ _ _).trans (read_rows hbM0_1 _ _ _ fh1)
  have l4 : shapeCast S256x1024 (run_first.sl.v191 c arg8 fh1 fs2) shapeCasts_S1x256x1024_S256x1024 = rowsFrom 1024 (hbM0_1.view.read (Elt F) fh1) :=
    (slot_before arg8 _ _ _ _ _ _ (by decide) _ _ _).trans (read_rows hbM0_1 _ _ _ fh1)
  have l5 : shapeCast S256x1024 (run_first.sl.v227 c arg8 fh1 fs2) shapeCasts_S1x256x1024_S256x1024 = rowsFrom 1280 (hbM0_1.view.read (Elt F) fh1) :=
    (slot_before arg8 _ _ _ _ _ _ (by decide) _ _ _).trans (read_rows hbM0_1 _ _ _ fh1)
  have l6 : shapeCast S256x1024 (run_first.sl.v263 c arg8 fh1 fs2) shapeCasts_S1x256x1024_S256x1024 = rowsFrom 1536 (hbM0_1.view.read (Elt F) fh1) :=
    (slot_before arg8 _ _ _ _ _ _ (by decide) _ _ _).trans (read_rows hbM0_1 _ _ _ fh1)
  have l7 : shapeCast S256x1024 (run_first.sl.v299 c arg8 fh1 fs2) shapeCasts_S1x256x1024_S256x1024 = rowsFrom 1792 (hbM0_1.view.read (Elt F) fh1) :=
    (slot_before arg8 _ _ _ _ _ _ (by decide) _ _ _).trans (read_rows hbM0_1 _ _ _ fh1)
  have l8 : shapeCast S256x1024 (run_first.sl.v335 c arg8 fh1 fs2) shapeCasts_S1x256x1024_S256x1024 = rowsFrom 2048 (hbM0_1.view.read (Elt F) fh1) :=
    (slot_before arg8 _ _ _ _ _ _ (by decide) _ _ _).trans (read_rows hbM0_1 _ _ _ fh1)
  have l9 : shapeCast S256x1024 (run_first.sl.v371 c arg8 fh1 fs2) shapeCasts_S1x256x1024_S256x1024 = rowsFrom 2304 (hbM0_1.view.read (Elt F) fh1) :=
    (slot_before arg8 _ _ _ _ _ _ (by decide) _ _ _).trans (read_rows hbM0_1 _ _ _ fh1)
  have l10 : shapeCast S256x1024 (run_first.sl.v407 c arg8 fh1 fs2) shapeCasts_S1x256x1024_S256x1024 = rowsFrom 2560 (hbM0_1.view.read (Elt F) fh1) :=
    (slot_before arg8 _ _ _ _ _ _ (by decide) _ _ _).trans (read_rows hbM0_1 _ _ _ fh1)
  have l11 : shapeCast S256x1024 (run_first.sl.v443 c arg8 fh1 fs2) shapeCasts_S1x256x1024_S256x1024 = rowsFrom 2816 (hbM0_1.view.read (Elt F) fh1) :=
    (slot_before arg8 _ _ _ _ _ _ (by decide) _ _ _).trans (read_rows hbM0_1 _ _ _ fh1)
  have l12 : shapeCast S256x1024 (run_first.sl.v479 c arg8 fh1 fs2) shapeCasts_S1x256x1024_S256x1024 = rowsFrom 3072 (hbM0_1.view.read (Elt F) fh1) :=
    (slot_before arg8 _ _ _ _ _ _ (by decide) _ _ _).trans (read_rows hbM0_1 _ _ _ fh1)
  have l13 : shapeCast S256x1024 (run_first.sl.v515 c arg8 fh1 fs2) shapeCasts_S1x256x1024_S256x1024 = rowsFrom 3328 (hbM0_1.view.read (Elt F) fh1) :=
    (slot_before arg8 _ _ _ _ _ _ (by decide) _ _ _).trans (read_rows hbM0_1 _ _ _ fh1)
  have l14 : shapeCast S256x1024 (run_first.sl.v551 c arg8 fh1 fs2) shapeCasts_S1x256x1024_S256x1024 = rowsFrom 3584 (hbM0_1.view.read (Elt F) fh1) :=
    (slot_before arg8 _ _ _ _ _ _ (by decide) _ _ _).trans (read_rows hbM0_1 _ _ _ fh1)
  have l15 : shapeCast S256x1024 (run_first.sl.v577 c arg8 fh1 fs2) shapeCasts_S1x256x1024_S256x1024 = rowsFrom 3840 (hbM0_1.view.read (Elt F) fh1) :=
    (slot_latest arg8 _ _ _ _ _).trans (read_rows hbM0_1 _ _ _ fh1)
  -- the chunk of the bias operand each load of `arg4` finds
  have hbias : ∀ (o : ℕ) (inb : ∀ a, (![0, o] : Fin 2 → ℕ) a + S1x256.size a ≤ S1x4096.size a),
      arg4.view.readAt (Elt F) (Rect.unit (s := S1x4096) ![0, o] S1x256.size inb).toLoadRect (harg4.unread x1) = entriesFrom o x1 :=
    fun o inb => (read_entries arg4 o inb _).trans (congrArg _ hf1)
  have hw : ∀ f, arg6.view.read (Elt F) (arg6.view.writes (Elt F) f (run_first.sl.HS0_16 c arg7 fh0 fs1)) = rounded (hbM0_0.view.read (Elt F) fh0) := by
    refine fun f => funext fun y => View.read_writes_apply_of_pieces _ _ _ _ ?_ y (View.cover_of_tiledL (s := S4096x1024) _ S256x1024.size (by sl_kernel_rfl) y)
    unfold run_first.sl.HS0_16
    have p := rounded_piece (hbM0_0.view.read (Elt F) fh0) 3840 inb_S4096x1024_S256x1024_3840_0 _ w15; refine List.forall_mem_cons.mpr ⟨p, ?_⟩; clear p
    have p := rounded_piece (hbM0_0.view.read (Elt F) fh0) 3584 inb_S4096x1024_S256x1024_3584_0 _ w14; refine List.forall_mem_cons.mpr ⟨p, ?_⟩; clear p
    have p := rounded_piece (hbM0_0.view.read (Elt F) fh0) 3328 inb_S4096x1024_S256x1024_3328_0 _ w13; refine List.forall_mem_cons.mpr ⟨p, ?_⟩; clear p
    have p := rounded_piece (hbM0_0.view.read (Elt F) fh0) 3072 inb_S4096x1024_S256x1024_3072_0 _ w12; refine List.forall_mem_cons.mpr ⟨p, ?_⟩; clear p
    have p := rounded_piece (hbM0_0.view.read (Elt F) fh0) 2816 inb_S4096x1024_S256x1024_2816_0 _ w11; refine List.forall_mem_cons.mpr ⟨p, ?_⟩; clear p
    have p := rounded_piece (hbM0_0.view.read (Elt F) fh0) 2560 inb_S4096x1024_S256x1024_2560_0 _ w10; refine List.forall_mem_cons.mpr ⟨p, ?_⟩; clear p
    have p := rounded_piece (hbM0_0.view.read (Elt F) fh0) 2304 inb_S4096x1024_S256x1024_2304_0 _ w9; refine List.forall_mem_cons.mpr ⟨p, ?_⟩; clear p
    have p := rounded_piece (hbM0_0.view.read (Elt F) fh0) 2048 inb_S4096x1024_S256x1024_2048_0 _ w8; refine List.forall_mem_cons.mpr ⟨p, ?_⟩; clear p
    have p := rounded_piece (hbM0_0.view.read (Elt F) fh0) 1792 inb_S4096x1024_S256x1024_1792_0 _ w7; refine List.forall_mem_cons.mpr ⟨p, ?_⟩; clear p
    have p := rounded_piece (hbM0_0.view.read (Elt F) fh0) 1536 inb_S4096x1024_S256x1024_1536_0 _ w6; refine List.forall_mem_cons.mpr ⟨p, ?_⟩; clear p
    have p := rounded_piece (hbM0_0.view.read (Elt F) fh0) 1280 inb_S4096x1024_S256x1024_1280_0 _ w5; refine List.forall_mem_cons.mpr ⟨p, ?_⟩; clear p
    have p := rounded_piece (hbM0_0.view.read (Elt F) fh0) 1024 inb_S4096x1024_S256x1024_1024_0 _ w4; refine List.forall_mem_cons.mpr ⟨p, ?_⟩; clear p
    have p := rounded_piece (hbM0_0.view.read (Elt F) fh0) 768 inb_S4096x1024_S256x1024_768_0 _ w3; refine List.forall_mem_cons.mpr ⟨p, ?_⟩; clear p
    have p := rounded_piece (hbM0_0.view.read (Elt F) fh0) 512 inb_S4096x1024_S256x1024_512_0 _ w2; refine List.forall_mem_cons.mpr ⟨p, ?_⟩; clear p
    have p := rounded_piece (hbM0_0.view.read (Elt F) fh0) 256 inb_S4096x1024_S256x1024_256_0 _ w1; refine List.forall_mem_cons.mpr ⟨p, ?_⟩; clear p
    have p := rounded_piece (hbM0_0.view.read (Elt F) fh0) 0 inb_S4096x1024_S256x1024_0_0 _ w0; refine List.forall_mem_cons.mpr ⟨p, ?_⟩; clear p
    exact fun _ h => absurd h List.not_mem_nil
  have hb : ∀ f, arg9.view.read (Elt F) (arg9.view.writes (Elt F) f (run_first.sl.HS3_16 c arg4 harg4 arg7 arg8 x1 fh0 fh1 fs1 fs2))
      = biasRow (hbM0_0.view.read (Elt F) fh0) (hbM0_1.view.read (Elt F) fh1) x1 := by
    refine fun f => funext fun y => View.read_writes_apply_of_pieces _ _ _ _ ?_ y (View.cover_of_tiledL (s := S1x4096) _ S1x256.size (by sl_kernel_rfl) y)
    unfold run_first.sl.HS3_16
    have p := bias_piece (hbM0_0.view.read (Elt F) fh0) (hbM0_1.view.read (Elt F) fh1) x1 3840 (by decide) inb_S1x4096_S1x256_0_3840 _ _ _ w15 l15 (hbias _ inb_S1x4096_S1x256_0_3840); refine List.forall_mem_cons.mpr ⟨p, ?_⟩; clear p
    have p := bias_piece (hbM0_0.view.read (Elt F) fh0) (hbM0_1.view.read (Elt F) fh1) x1 3584 (by decide) inb_S1x4096_S1x256_0_3584 _ _ _ w14 l14 (hbias _ inb_S1x4096_S1x256_0_3584); refine List.forall_mem_cons.mpr ⟨p, ?_⟩; clear p
    have p := bias_piece (hbM0_0.view.read (Elt F) fh0) (hbM0_1.view.read (Elt F) fh1) x1 3328 (by decide) inb_S1x4096_S1x256_0_3328 _ _ _ w13 l13 (hbias _ inb_S1x4096_S1x256_0_3328); refine List.forall_mem_cons.mpr ⟨p, ?_⟩; clear p
    have p := bias_piece (hbM0_0.view.read (Elt F) fh0) (hbM0_1.view.read (Elt F) fh1) x1 3072 (by decide) inb_S1x4096_S1x256_0_3072 _ _ _ w12 l12 (hbias _ inb_S1x4096_S1x256_0_3072); refine List.forall_mem_cons.mpr ⟨p, ?_⟩; clear p
    have p := bias_piece (hbM0_0.view.read (Elt F) fh0) (hbM0_1.view.read (Elt F) fh1) x1 2816 (by decide) inb_S1x4096_S1x256_0_2816 _ _ _ w11 l11 (hbias _ inb_S1x4096_S1x256_0_2816); refine List.forall_mem_cons.mpr ⟨p, ?_⟩; clear p
    have p := bias_piece (hbM0_0.view.read (Elt F) fh0) (hbM0_1.view.read (Elt F) fh1) x1 2560 (by decide) inb_S1x4096_S1x256_0_2560 _ _ _ w10 l10 (hbias _ inb_S1x4096_S1x256_0_2560); refine List.forall_mem_cons.mpr ⟨p, ?_⟩; clear p
    have p := bias_piece (hbM0_0.view.read (Elt F) fh0) (hbM0_1.view.read (Elt F) fh1) x1 2304 (by decide) inb_S1x4096_S1x256_0_2304 _ _ _ w9 l9 (hbias _ inb_S1x4096_S1x256_0_2304); refine List.forall_mem_cons.mpr ⟨p, ?_⟩; clear p
    have p := bias_piece (hbM0_0.view.read (Elt F) fh0) (hbM0_1.view.read (Elt F) fh1) x1 2048 (by decide) inb_S1x4096_S1x256_0_2048 _ _ _ w8 l8 (hbias _ inb_S1x4096_S1x256_0_2048); refine List.forall_mem_cons.mpr ⟨p, ?_⟩; clear p
    have p := bias_piece (hbM0_0.view.read (Elt F) fh0) (hbM0_1.view.read (Elt F) fh1) x1 1792 (by decide) inb_S1x4096_S1x256_0_1792 _ _ _ w7 l7 (hbias _ inb_S1x4096_S1x256_0_1792); refine List.forall_mem_cons.mpr ⟨p, ?_⟩; clear p
    have p := bias_piece (hbM0_0.view.read (Elt F) fh0) (hbM0_1.view.read (Elt F) fh1) x1 1536 (by decide) inb_S1x4096_S1x256_0_1536 _ _ _ w6 l6 (hbias _ inb_S1x4096_S1x256_0_1536); refine List.forall_mem_cons.mpr ⟨p, ?_⟩; clear p
    have p := bias_piece (hbM0_0.view.read (Elt F) fh0) (hbM0_1.view.read (Elt F) fh1) x1 1280 (by decide) inb_S1x4096_S1x256_0_1280 _ _ _ w5 l5 (hbias _ inb_S1x4096_S1x256_0_1280); refine List.forall_mem_cons.mpr ⟨p, ?_⟩; clear p
    have p := bias_piece (hbM0_0.view.read (Elt F) fh0) (hbM0_1.view.read (Elt F) fh1) x1 1024 (by decide) inb_S1x4096_S1x256_0_1024 _ _ _ w4 l4 (hbias _ inb_S1x4096_S1x256_0_1024); refine List.forall_mem_cons.mpr ⟨p, ?_⟩; clear p
    have p := bias_piece (hbM0_0.view.read (Elt F) fh0) (hbM0_1.view.read (Elt F) fh1) x1 768 (by decide) inb_S1x4096_S1x256_0_768 _ _ _ w3 l3 (hbias _ inb_S1x4096_S1x256_0_768); refine List.forall_mem_cons.mpr ⟨p, ?_⟩; clear p
    have p := bias_piece (hbM0_0.view.read (Elt F) fh0) (hbM0_1.view.read (Elt F) fh1) x1 512 (by decide) inb_S1x4096_S1x256_0_512 _ _ _ w2 l2 (hbias _ inb_S1x4096_S1x256_0_512); refine List.forall_mem_cons.mpr ⟨p, ?_⟩; clear p
    have p := bias_piece (hbM0_0.view.read (Elt F) fh0) (hbM0_1.view.read (Elt F) fh1) x1 256 (by decide) inb_S1x4096_S1x256_0_256 _ _ _ w1 l1 (hbias _ inb_S1x4096_S1x256_0_256); refine List.forall_mem_cons.mpr ⟨p, ?_⟩; clear p
    have p := bias_piece (hbM0_0.view.read (Elt F) fh0) (hbM0_1.view.read (Elt F) fh1) x1 0 (by decide) inb_S1x4096_S1x256_0_0 _ _ _ w0 l0 (hbias _ inb_S1x4096_S1x256_0_0); refine List.forall_mem_cons.mpr ⟨p, ?_⟩; clear p
    exact fun _ h => absurd h List.not_mem_nil
  have hx : View.readAt (Elt F) arg1.view (Rect.unit ![0, 0] S1024x1024.size inb_S1024x1024_S1024x1024_0_0).toLoadRect (harg1.unread x0) = x0 :=
    (View.readAt_full _ _ _).trans hf0
  have h5 : run_first.sl.v5 c arg6 arg7 fh0 fs1 = rounded (hbM0_0.view.read (Elt F) fh0) :=
    (View.readAt_full arg6.view _ inb_S4096x1024_S4096x1024_0_0).trans (hw _)
  have h7 : run_first.sl.v7 c arg4 harg4 arg7 arg8 arg9 x1 fh0 fh1 fs1 fs2 = biasRow (hbM0_0.view.read (Elt F) fh0) (hbM0_1.view.read (Elt F) fh1) x1 :=
    (View.readAt_full arg9.view _ inb_S1x4096_S1x4096_0_0).trans (hb _)
  have ho : ∀ a b d, a = x0 → b = rounded (hbM0_0.view.read (Elt F) fh0) → d = biasRow (hbM0_0.view.read (Elt F) fh0) (hbM0_1.view.read (Elt F) fh1) x1 →
      k0_pay2 a b d = rowBlock x0 (rounded (hbM0_0.view.read (Elt F) fh0)) (biasRow (hbM0_0.view.read (Elt F) fh0) (hbM0_1.view.read (Elt F) fh1) x1) := by
    rintro _ _ _ rfl rfl rfl; rfl
  iapply Hk
  isplitl [H0]
  · iexists _; isplitr; · ipureintro; exact harg1.read_unread _
    iexact H0
  isplitl [H1]
  · iexists _; isplitr; · ipureintro; exact harg4.read_unread _
    iexact H1
  isplitl [H2]
  · iexists _; isplitr; swap; · iexact H2
    ipureintro; exact (View.read_writes_full arg5.view _ inb_S1024x4096_S1024x4096_0_0 _ []).trans (ho _ _ _ hx h5 h7)
  isplitl [HS0]
  · iexists _; isplitr; swap; · iexact HS0
    ipureintro; exact hw _
  isplitl [HS1]
  · iexists _, _; isplitr; swap; · iexact HS1
    ipureintro; rfl
  isplitl [HS2]
  · iexists _, _; isplitr; swap; · iexact HS2
    ipureintro; rfl
  isplitl [HS3]
  · iexists _; isplitr; swap; · iexact HS3
    ipureintro; exact hb _
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  iexists _; iexact HW

end Cert.KernelIdeal.Fused

end
-- ==== Proof.Fused.RunLater.lean ====
module

public import proofs.«01_k».proof.Proof.Fused.RunFirst

/-! # Every later grid point: the scratches are read as they are and the row block is stored -/

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body where its branch is not taken: with `arg6` at `w` and `arg9` at `b` it leaves both and stores the row block
    of `x0` over them. -/
theorem run_later (c : Dev nD) (i : grid0.Coords) (arg1 : Memref sig .tc .vmem S1024x1024 .f32) (harg1 : arg1.IsWhole) (arg4 : Memref sig .tc .vmem S1x4096 .f32) (harg4 : arg4.IsWhole) (arg5 : Memref sig .tc .vmem S1024x4096 .f32) (harg5 : arg5.IsWhole) (arg6 : Memref sig .tc .vmem S4096x1024 .bf16) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S1x4096 .f32) (harg9 : arg9.IsWhole)
    (hc0 : ¬cond0_0 i) (x0 : Vec F S1024x1024 .f32) (x1 : Vec F S1x4096 .f32) (w : Vec F S4096x1024 .bf16) (b : Vec F S1x4096 .f32) (fh0 : HbBuf0 (F := F) c hbM0_0) (fh1 : HbBuf0 (F := F) c hbM0_1)
    (W : Waits sig Unit) (K : PUnit → sProp 𝕄) :
    iprop(owns (c : Thread nD τ) arg1 fullShare x0
          ∗ owns (c : Thread nD τ) arg4 fullShare x1
          ∗ (∃ d, owns (c : Thread nD τ) arg5 fullShare d)
          ∗ owns (c : Thread nD τ) arg6 fullShare w
          ∗ (∃ d, owns (c : Thread nD τ) arg7 fullShare d)
          ∗ (∃ d, owns (c : Thread nD τ) arg8 fullShare d)
          ∗ owns (c : Thread nD τ) arg9 fullShare b
          ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ hbPt0 c hbM0_0 fh0 ∗ hbPt0 c hbM0_1 fh1 ∗ owes (c : Thread nD τ) 0 W
          ∗ (iprop(owns (c : Thread nD τ) arg1 fullShare x0
          ∗ owns (c : Thread nD τ) arg4 fullShare x1
          ∗ owns (c : Thread nD τ) arg5 fullShare (rowBlock x0 w b)
          ∗ owns (c : Thread nD τ) arg6 fullShare w
          ∗ (∃ d, owns (c : Thread nD τ) arg7 fullShare d)
          ∗ (∃ d, owns (c : Thread nD τ) arg8 fullShare d)
          ∗ owns (c : Thread nD τ) arg9 fullShare b
          ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ hbPt0 c hbM0_0 fh0 ∗ hbPt0 c hbM0_1 fh1 ∗ (∃ W', owes (c : Thread nD τ) 0 W')) -∗ K ⟨⟩))
      ⊢ wp frame (wpE (defs₀ (F := F)) Variants.none c none) Set.univ
          (cc0__fused_kernel i arg1 harg1 (Memref.whole main_arg2) (Memref.isWhole_whole _) (Memref.whole main_arg1) (Memref.isWhole_whole _) arg4 harg4 arg5 harg5 arg6 harg6 arg7 harg7 arg8 harg8 arg9 harg9 cc0_scratch4 cc0_scratch5) K := by
  simp only [cc0__fused_kernel_eq_skeleton]; unfold cc0__fused_kernel_skel
  unfold owns
  iintro ⟨⟨%f0, %hf0, H0⟩, ⟨%f1, %hf1, H1⟩, ⟨%d2, %f2, -, H2⟩, ⟨%fs0, %hs0, HS0⟩, ⟨%ds1, %fs1, -, HS1⟩, ⟨%ds2, %fs2, -, HS2⟩, ⟨%fs3, %hs3, HS3⟩, Hq0, Hq1, Hq2, Hq3, Hh0, Hh1, HW, Hk⟩
  obtain rfl := harg1.eq_unread hf0; obtain rfl := harg4.eq_unread hf1
  obtain rfl := harg6.eq_unread hs0; obtain rfl := harg9.eq_unread hs3
  sl_exec (disch := first | sl_exact hc0)
  sl_step
  have ho : ∀ a p d, a = x0 → p = w → d = b → k0_pay2 a p d = rowBlock x0 w b := by
    rintro _ _ _ rfl rfl rfl; rfl
  iapply Hk
  isplitl [H0]
  · iexists _; isplitr; · ipureintro; exact harg1.read_unread _
    iexact H0
  isplitl [H1]
  · iexists _; isplitr; · ipureintro; exact harg4.read_unread _
    iexact H1
  isplitl [H2]
  · iexists _; isplitr; swap; · iexact H2
    ipureintro; exact (View.read_writes_full arg5.view _ inb_S1024x4096_S1024x4096_0_0 _ []).trans
      (ho _ _ _ ((View.readAt_full _ _ _).trans hf0) ((View.readAt_full _ _ _).trans hs0) ((View.readAt_full _ _ _).trans hs3))
  isplitl [HS0]
  · iexists _; isplitr; swap; · iexact HS0
    ipureintro; exact hs0
  isplitl [HS1]
  · iexists _, _; isplitr; swap; · iexact HS1
    ipureintro; rfl
  isplitl [HS2]
  · iexists _, _; isplitr; swap; · iexact HS2
    ipureintro; rfl
  isplitl [HS3]
  · iexists _; isplitr; swap; · iexact HS3
    ipureintro; exact hs3
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  iexists _; iexact HW

end Cert.KernelIdeal.Fused

end
-- ==== Proof.Fused.Launch.lean ====
module

public import proofs.«01_k».proof.Proof.Fused.RunLater
public import Idealize.ShloMosaic.Lib.Quiescent

/-! # The launch: sixteen grid points in order

The rounded weight and the bias row are the same at every point after the first, so the invariant
between points names them once: before the first point the scratches hold anything, afterwards `arg6`
holds `weight m c` and `arg9` holds `bias m c`. Each point then leaves the row block of its own block
of `x` (`body_at`). The library's launch theorem then gives the run of the whole program (`run`): its
result is the array the row blocks make up, its arguments are unchanged and its semaphores are at zero. -/

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the scratches hold between points -/

/-- The first grid point. -/
def first : Fin cfg0.N := ⟨0, by rw [show cfg0.N = 16 from N_0]; decide⟩

/-- The weight operand, rounded. -/
def weight (c : Dev nD) : Vec F S4096x1024 .bf16 := rounded (hbM0_0.view.read (Elt F) (V m c main_arg2))

/-- The bias row computed from the weight, the label embedding and the bias operand. -/
def bias (c : Dev nD) : Vec F S1x4096 .f32 :=
  biasRow (hbM0_0.view.read (Elt F) (V m c main_arg2)) (hbM0_1.view.read (Elt F) (V m c main_arg1)) (iblk m c 1 first)

/-- What is held between points once the scratches are filled: `arg6` and `arg9` at their named contents, the staging
    buffers at anything, the generator register, the four semaphores at zero and the two operands left in place. -/
def filled (c : Dev nD) : sProp 𝕄 :=
  iprop(iprop(owns (c : Thread nD τ) scM0_0 fullShare (weight m c) ∗ (∃ d, owns (c : Thread nD τ) scM0_1 fullShare d) ∗ (∃ d, owns (c : Thread nD τ) scM0_2 fullShare d) ∗ owns (c : Thread nD τ) scM0_3 fullShare (bias m c)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) ∗ iprop(hbPt0 c hbM0_0 (V m c main_arg2) ∗ hbPt0 c hbM0_1 (V m c main_arg1)))

/-- The invariant before position `n`: the launch's own before the first point, `filled` afterwards. -/
def between (c : Dev nD) : ℕ → sProp 𝕄
  | 0 => Pipeline.ΦD osem0 spec0 H0 (V m) c
  | _ + 1 => filled m c

theorem between_pos (c : Dev nD) (n : ℕ) (h : n ≠ 0) : between m c n = filled m c := by
  cases n with
  | zero => exact absurd rfl h
  | succ n => rfl

/-- Forgetting the named contents gives the launch's invariant back. -/
theorem filled_forget (c : Dev nD) : filled m c ⊢ Pipeline.ΦD osem0 spec0 H0 (V m) c := by
  rw [PhiD0_eq]; unfold filled
  iintro ⟨⟨HS0, HS1, HS2, HS3⟩, Hg, Hq, Hh⟩
  isplitl [HS0 HS1 HS2 HS3]
  · isplitl [HS0]; · iexists _; iexact HS0
    isplitl [HS1]; · iexact HS1
    isplitl [HS2]; · iexact HS2
    iexists _; iexact HS3
  isplitl [Hg]; · iexact Hg
  isplitl [Hq]; · iexact Hq
  iexact Hh

/-! ## The pipeline's proof data -/

/-- The proof data: the arrays as the region finds them, each input block left in place, the output block at the row
    block of its point, the invariant `between`, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => rowBlock (iblk m c 0 t) (weight m c) (bias m c)
  Φ t := between m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) : (dats m 0 c).after 2 t = rowBlock (iblk m c 0 t) (weight m c) (bias m c) := by dsimp only [dats]

/-- The staged block of `x` at a point, whether or not it was fetched there. -/
theorem before_in0 (c : Dev nD) (t : Fin cfg0.N) (d) : (dats m 0 c).before 0 t d = iblk m c 0 t :=
  ((dats m 0 c).before_in_eq_fetched 0 rfl (fun _ => rfl) (fun _ _ _ => rfl) (fun t => by rw [after_in0]; unfold Dat.blockOf iblk; rw [A_eq]) t d).trans
    (by unfold Dat.fetched Dat.blockOf iblk; rw [A_eq]; rfl)
/-- The staged bias operand at a point, whether or not it was fetched there. -/
theorem before_in1 (c : Dev nD) (t : Fin cfg0.N) (d) : (dats m 0 c).before 1 t d = iblk m c 1 t :=
  ((dats m 0 c).before_in_eq_fetched 1 rfl (fun _ => rfl) (fun _ _ _ => rfl) (fun t => by rw [after_in1]; unfold Dat.blockOf iblk; rw [A_eq]) t d).trans
    (by unfold Dat.fetched Dat.blockOf iblk; rw [A_eq]; rfl)

/-! ## The body at a point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: `run_first` at the first, `run_later` at the others. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = filled m c from rfl, show (dats m 0 c).Φ t.castSucc = between m c t.val from rfl,
    after_in0, after_in1, after_out]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases hz : t.val = 0
  · obtain rfl : t = first := Fin.ext hz
    rw [show between m c first.val = Pipeline.ΦD osem0 spec0 H0 (V m) c from rfl, PhiD0_eq]
    unfold filled
    iintro ⟨⟨⟨HS0, HS1, HS2, HS3⟩, Hg, ⟨Hq0, Hq1, Hq2, Hq3⟩, ⟨Hh0, Hh1⟩⟩, ⟨%W, -, HW⟩, ⟨%d0, H0⟩, ⟨%d1, H1⟩, ⟨%d2, H2⟩⟩
    iapply (run_first c (grid0.coords first) _ _ _ _ _ _ _ _ _ _ _ _ _ _ ((hcond0_0 first).mpr (Nat.zero_mod _)) (iblk m c 0 first) (iblk m c 1 first) (V m c main_arg2) (V m c main_arg1) W _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨H0, H1, H2, HS0, HS1, HS2, HS3, Hq0, Hq1, Hq2, Hq3, Hh0, Hh1, ⟨%W', HW'⟩⟩
    isplitl [HS0 HS1 HS2 HS3 Hg Hq0 Hq1 Hq2 Hq3 Hh0 Hh1]
    · isplitl [HS0 HS1 HS2 HS3]
      · isplitl [HS0]; · iexact HS0
        isplitl [HS1]; · iexact HS1
        isplitl [HS2]; · iexact HS2
        iexact HS3
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW']
    · iexists W'; isplitr; · ipureintro; exact fun _ _ => Or.inl trivial
      iexact HW'
    isplitl [H0]; · iexact H0
    isplitl [H1]; · iexact H1
    iexact H2
  · have hc : ¬ cond0_0 (grid0.coords t) := fun h => hz (by have := (hcond0_0 t).mp h; omega)
    rw [between_pos m c _ hz]
    unfold filled
    iintro ⟨⟨⟨HS0, HS1, HS2, HS3⟩, Hg, ⟨Hq0, Hq1, Hq2, Hq3⟩, ⟨Hh0, Hh1⟩⟩, ⟨%W, -, HW⟩, ⟨%d0, H0⟩, ⟨%d1, H1⟩, ⟨%d2, H2⟩⟩
    iapply (run_later c (grid0.coords t) _ _ _ _ _ _ _ _ _ _ _ _ _ _ hc (iblk m c 0 t) (iblk m c 1 t) (weight m c) (bias m c) (V m c main_arg2) (V m c main_arg1) W _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨H0, H1, H2, HS0, HS1, HS2, HS3, Hq0, Hq1, Hq2, Hq3, Hh0, Hh1, ⟨%W', HW'⟩⟩
    isplitl [HS0 HS1 HS2 HS3 Hg Hq0 Hq1 Hq2 Hq3 Hh0 Hh1]
    · isplitl [HS0 HS1 HS2 HS3]
      · isplitl [HS0]; · iexact HS0
        isplitl [HS1]; · iexact HS1
        isplitl [HS2]; · iexact HS2
        iexact HS3
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW']
    · iexists W'; isplitr; · ipureintro; exact fun _ _ => Or.inl trivial
      iexact HW'
    isplitl [H0]; · iexact H0
    isplitl [H1]; · iexact H1
    iexact H2

/-- The body table's row at point `t` is the body there. -/
theorem body_row (t : Fin cfg0.N) :
    defs₀ (F := F) .tc cfg0.body (cfg0.bodyArgs t (cfg0.slots t)) = bodyAt0 t := by
  unfold defs₀; rw [Defs.onTc_tc]

/-- The library's obligation on the body, at every point. -/
theorem obligation (c : Dev nD) : BodyObligation (dats (F := F) m 0 c) (defs₀ (F := F)) Variants.none () Set.univ := fun t => by
  rw [bigSep_W0, bigSep_W0, body_row]
  exact triple_restated (body_at m c t) rfl .rfl fun _ => .rfl

/-- The launch's invariant is the one before the first point, -/
theorem enter (c : Dev nD) : Pipeline.ΦD osem0 spec0 H0 (V m) c ⊢ (dats m 0 c).Φ 0 := by
  rw [show (dats m 0 c).Φ 0 = Pipeline.ΦD osem0 spec0 H0 (V m) c from rfl]

/-- and the one after the last point gives it back. -/
theorem leave (c : Dev nD) : (dats m 0 c).Φ (Fin.last cfg0.N) ⊢ Pipeline.ΦD osem0 spec0 H0 (V m) c := by
  rw [show (dats m 0 c).Φ (Fin.last cfg0.N) = between m c cfg0.N from rfl,
    between_pos m c _ (by rw [show cfg0.N = 16 from N_0]; decide)]
  exact filled_forget m c

/-! ## The run -/

set_option maxHeartbeats 800000 in
/-- The program up to its kernel: the one reshape of the bias, then the region. -/
theorem up_to_kernel : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

-- the implicit arguments of the launch theorem are found through types that have to be unfolded
set_option backward.isDefEq.respectTransparency.types false in
/-- Every execution of the program ends, with the arrays at what the proof data computes, every other buffer as the
    region found it, and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := up_to_kernel m) (hA := A_eq m)
    (hin := enter m) (hout := leave m)

/-- Every execution ends with the result array at `arrAt 2`, the four arguments unchanged and every semaphore at zero. -/
theorem run : θ_run defs (onTc (τ := τ) (main (F := F))) ⟨m, fun _ => 0, ρ⟩ (fun r => (∀ c : Dev nD,
      r.2.mem ((c.tc : Thread nD τ).loc main_v1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 2,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_main m ρ)

end Cert.KernelIdeal.Fused

end
-- ==== Proof.Fused.SameProgram.lean ====
module

public import proofs.«01_k».proof.Proof.Fused.Launch
public import proofs.«01_k».proof.Proof.Gen.Kernel

/-! # The kernel and its ideal program are one program

No operation is rewritten, so the two are the same text, read at any float formats. The run of the ideal
program (`Launch.lean`) is stated at any formats, and so it is the kernel's run at its own. -/

@[expose] public section

noncomputable section

namespace Cert.Kernel.Fused

open Idealize.ShloMosaic Idealize.SL.Sem

variable {F : FTy → Type} [FloatOps F]

/-- The two tables of kernel bodies are equal: at their one label, both are the same body. -/
theorem bodies_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So are the tables with the pipeline's own labels added. -/
theorem defs_eq : Cert.Kernel.defs (F := F) = Cert.KernelIdeal.defs (F := F) :=
  congrArg (Pipeline.defs Cert.KernelIdeal.pcfgs) bodies_eq

/-- The kernel runs to the end, its arguments unchanged and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact (θ_run Cert.KernelIdeal.defs _ _).mono (fun r h => ⟨fun c => (h.1 c).2, h.2⟩) (Cert.KernelIdeal.Fused.run m ρ)

end Cert.Kernel.Fused

end
-- ==== Proof.Fused.Equation.lean ====
module

public import proofs.«01_k».proof.Proof.Fused.Launch
public import Idealize.ShloMosaic.Lib.Pointwise
public import Idealize.ShloMosaic.Lib.Pipeline.ValueKit
public import proofs.«01_k».proof.Proof.Gen.ReferenceIdeal.Run

/-! # The result, entry by entry, over exact arithmetic

Entry `(r, j)` of the result is `∑ₖ x[r, k] · W[j, k] + (∑ₖ W[j, k] · L[j, k] + b[j])`: `combined`.
The kernel's result array is this function of its arguments (`kernel_combined`), and so is the
reference's composed term (`reference_combined`). -/

@[expose] public section

set_option maxRecDepth 16384

noncomputable section

namespace Cert.KernelIdeal.Fused

open Cert.KernelIdeal.Gen
open Idealize.ShloMosaic Idealize.ShloMosaic.TcCoe

variable (m : (ℓ : Loc nD τ sig) → Buf (Elt Ideal) ℓ)

/-- The result as a function of the four arguments: the product with the weight's transpose, plus the column's bias
    and the inner product of the weight's row with the label embedding's row. -/
def combined (x : Vec Ideal S16384x1024 .f32) (w l : Vec Ideal S4096x1024 .f32) (b : Vec Ideal S4096 .f32) : Vec Ideal S16384x4096 .f32 :=
  fun i => (∑ k : Fin 1024, (x (ix2 (i 0) k) : EReal) * w (ix2 (i 1) k))
    + ((∑ k : Fin 1024, (w (ix2 (i 1) k) : EReal) * l (ix2 (i 1) k)) + b (ix1 (i 1)))

/-- An entry of a row block: the row of `x` against the row of the weight, plus the column's bias. -/
theorem rowBlock_entry (x : Vec Ideal S1024x1024 .f32) (w : Vec Ideal S4096x1024 .bf16) (b : Vec Ideal S1x4096 .f32) (y : S1024x4096.Idx) :
    rowBlock x w b y = (∑ k : Fin 1024, (x (ix2 (y 0) k) : EReal) * w (ix2 (y 1) k)) + b (ix2 0 (y 1)) := by
  pointwise [rowBlock, k0_pay2]

/-- An entry of the bias row: the chunks' rows and entries put back together are the whole array's. -/
theorem biasRow_entry (w l : Vec Ideal S4096x1024 .f32) (b : Vec Ideal S1x4096 .f32) (j : Fin 4096) :
    biasRow w l b (ix2 0 j) = (∑ k : Fin 1024, (w (ix2 j k) : EReal) * l (ix2 j k)) + b (ix2 0 j) := by
  unfold biasRow
  pointwise [chunkBias, rowsFrom, entriesFrom]
  have e : (j.val / 256 * 256 + j.val % 256) % 4096 = j.val := by omega
  simp only [e]

/-! ## The kernel's side -/

/-- The block indices of the two moving windows at point `t`, and of the bias operand's window: row block `t`, the
    whole row. -/
theorem block_index : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- Row `a` of the block of `x` staged at point `t` is row `1024 t + a` of the argument. -/
theorem block_x (c : Dev nD) (t : Fin cfg0.N) (a k : Fin 1024) (r : Fin 16384) (hr : r.val = t.val * 1024 + a.val) :
    (iblk m c 0 t : Vec Ideal S1024x1024 .f32) (ix2 a k) = (m ((c.tc : Thread nD τ).loc main_arg0) : Vec Ideal S16384x1024 .f32) (ix2 r k) := by
  rw [← V_main_arg0 m c]
  blk_ext [iblk, block_index t]

/-- A vector laid out as one row, at an entry. -/
theorem row_of (b : Vec Ideal S4096 .f32) (j : Fin 4096) : shapeCast S1x4096 b shapeCasts_S4096_S1x4096 (ix2 0 j) = b (ix1 j) := by
  pointwise []

/-- The bias operand as staged is the bias argument laid out as one row. -/
theorem block_b (c : Dev nD) (j : Fin 4096) :
    (iblk m c 1 first : Vec Ideal S1x4096 .f32) (ix2 0 j) = (m ((c.tc : Thread nD τ).loc main_arg3) : Vec Ideal S4096 .f32) (ix1 j) := by
  have e : (iblk m c 1 first : Vec Ideal S1x4096 .f32) (ix2 0 j) = (V m c main_v0 : Vec Ideal S1x4096 .f32) (ix2 0 j) := by
    blk_ext [iblk, block_index first]
  rw [e]
  have v : (V m c main_v0 : Vec Ideal S1x4096 .f32) = shapeCast S1x4096 (m ((c.tc : Thread nD τ).loc main_arg3) : Vec Ideal S4096 .f32) shapeCasts_S4096_S1x4096 := by
    unfold V
    after_results
    rfl
  rw [v, row_of]

/-- The kernel's result array is `combined` of its arguments. -/
theorem kernel_combined (c : Dev nD) :
    (dats m 0 c).arrAt 2 cfg0.N = combined (m ((c.tc : Thread nD τ).loc main_arg0)) (m ((c.tc : Thread nD τ).loc main_arg2)) (m ((c.tc : Thread nD τ).loc main_arg1)) (m ((c.tc : Thread nD τ).loc main_arg3)) := by
  refine (dats m 0 c).arrAt_eq_of_covers 2 _ (by decide +kernel) fun t hf y => ?_
  blk_simp
  rw [after_out]
  have e0 : ((win0_2.blk t).view.emb y 0).val = t.val * 1024 + (y 0).val := by blk_simp [block_index t]
  have e1 : ((win0_2.blk t).view.emb y 1).val = (y 1).val := by blk_simp [block_index t]
  generalize (win0_2.blk t).view.emb y = i at e0 e1
  obtain e1 : (i 1 : Fin 4096) = y 1 := Fin.ext e1
  refine (rowBlock_entry _ _ _ y).trans ?_
  unfold combined
  rw [e1]
  have hw : ∀ k : Fin 1024, (weight m c : Vec Ideal S4096x1024 .bf16) (ix2 (y 1) k) = (m ((c.tc : Thread nD τ).loc main_arg2) : Vec Ideal S4096x1024 .f32) (ix2 (y 1) k) :=
    fun k => congrFun (V_main_arg2 m c) _
  have hl : ∀ k : Fin 1024, (hbM0_1.view.read (Elt Ideal) (V m c main_arg1) : Vec Ideal S4096x1024 .f32) (ix2 (y 1) k) = (m ((c.tc : Thread nD τ).loc main_arg1) : Vec Ideal S4096x1024 .f32) (ix2 (y 1) k) :=
    fun k => congrFun (V_main_arg1 m c) _
  have hx : ∀ k : Fin 1024, (iblk m c 0 t : Vec Ideal S1024x1024 .f32) (ix2 (y 0) k) = (m ((c.tc : Thread nD τ).loc main_arg0) : Vec Ideal S16384x1024 .f32) (ix2 (i 0) k) :=
    fun k => block_x m c t (y 0) k (i 0) e0
  refine congrArg₂ _ (Finset.sum_congr rfl fun k _ => congrArg₂ _ (hx k) (hw k)) ((biasRow_entry _ _ _ (y 1)).trans ?_)
  exact congrArg₂ _ (Finset.sum_congr rfl fun k _ => congrArg₂ _ (hw k) (hl k)) (block_b m c (y 1))

/-! ## The reference's side -/

/-- The reference's composed term is `combined` of its arguments. -/
theorem reference_combined (x : Vec Ideal S16384x1024 .f32) (w l : Vec Ideal S4096x1024 .f32) (b : Vec Ideal S4096 .f32) :
    addf (F := Ideal) (φ := .f32) (Host.dotGeneral (φ₁ := .f32) (φ₂ := .f32) Cert.ReferenceIdeal.dot_S16384x1024_S4096x1024_S16384x4096_1_1_0_0_n_n none x w)
      (broadcastInDim S16384x4096 ![0, 1] Cert.ReferenceIdeal.Gen.bcast_S1x4096_S16384x4096_0_1 (broadcastInDim S1x4096 ![1] Cert.ReferenceIdeal.Gen.bcast_S4096_S1x4096_1
        (addf (F := Ideal) (φ := .f32) (Host.dotGeneral (φ₁ := .f32) (φ₂ := .f32) Cert.ReferenceIdeal.dot_S4096x1024_S4096x1024_S4096_1_1_n_n_0_0 none w l) b)))
      = combined x w l b := by
  funext i
  pointwise [combined]

end Cert.KernelIdeal.Fused

end
-- ==== Proof.lean ====
/- The assembly: every claim of `Cert.Claim` from the run of its program. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Fused.SameProgram
public import proofs.«01_k».proof.Proof.Fused.Equation
public import Idealize.ShloMosaic.Lib.Quiescent
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The three programs run, keep their arguments and leave every semaphore at zero; no operation is rewritten; and over
    exact arithmetic the kernel's result equals the reference's, both being `combined` of the arguments. -/
theorem claim : Cert.Claim := by
  refine ⟨Cert.Kernel.Gen.facts, Cert.KernelIdeal.Gen.facts, Cert.ReferenceIdeal.Gen.facts,
    fun m ρ _ => Cert.Kernel.Fused.frame m ρ, fun m ρ _ => ?_, fun m ρ _ => ?_, trivial, fun m ρ m' ρ' _ same => ?_⟩
  · exact (θ_run Cert.KernelIdeal.defs _ _).mono (fun r h => ⟨fun c => (h.1 c).2, h.2⟩) (Cert.KernelIdeal.Fused.run m ρ)
  · exact (θ_run Cert.ReferenceIdeal.defs _ _).mono
      (fun r h => ⟨fun c => (h c).2, sem_eq_zero_of_no_sems (by decide) r.2⟩) (Cert.ReferenceIdeal.Value.run (F := Ideal) m ρ)
  · refine ⟨fun c => (Cert.KernelIdeal.Fused.dats m 0 c).arrAt 2 Cert.KernelIdeal.cfg0.N,
      (θ_run Cert.KernelIdeal.defs _ _).mono (fun r h => h.1) (Cert.KernelIdeal.Fused.run m ρ),
      (θ_run Cert.ReferenceIdeal.defs _ _).mono (fun r h c => ⟨(h c).1.trans ?_, (h c).2⟩)
        (Cert.ReferenceIdeal.Value.run (F := Ideal) m' ρ')⟩
    obtain ⟨a0, a1, a2, a3⟩ := same c
    rw [a0, a1, a2, a3]
    exact (Cert.KernelIdeal.Fused.reference_combined _ _ _ _).trans (Cert.KernelIdeal.Fused.kernel_combined m c).symm

end Cert.Proof

end
